-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_g2" .f32 0x4166D4CA#32 ((10 * (Real.log 2)⁻¹ : ℝ) : EReal)
  ∧ IdealRules.named_const.Statement Cert.KernelIdeal.κ "g_ln2" .f32 0x3D8DF4E0#32 (((1 / 10) * (Real.log 2) : ℝ) : EReal)
  ∧ IdealRules.named_const.Statement Cert.KernelIdeal.κ "inv_ln2" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096 : Shape := ⟨1, ![4096]⟩
abbrev S1 : Shape := ⟨1, ![1]⟩
abbrev S4095 : Shape := ⟨1, ![4095]⟩
abbrev S8x512 : Shape := ⟨2, ![8, 512]⟩
abbrev S1x1 : Shape := ⟨2, ![1, 1]⟩
abbrev S8x1 : Shape := ⟨2, ![8, 1]⟩
abbrev S8x511 : Shape := ⟨2, ![8, 511]⟩
abbrev S1x512 : Shape := ⟨2, ![1, 512]⟩
abbrev S7x512 : Shape := ⟨2, ![7, 512]⟩
abbrev S_ : Shape := ⟨0, ![]⟩

abbrev nBuf : Space → Nat
  | .hbm => 10
  | .vmem => 3
  | .smem => 0
  | _ => 0

abbrev bufTy : (tb : Table) → Fin (tcTables nBuf tb) → BufTy
  | .hbm, ⟨0, _⟩ => ⟨S4096, .f32⟩
  | .hbm, ⟨1, _⟩ => ⟨S4096, .f32⟩
  | .hbm, ⟨2, _⟩ => ⟨S4096, .f32⟩
  | .hbm, ⟨3, _⟩ => ⟨S1, .f32⟩
  | .hbm, ⟨4, _⟩ => ⟨S4095, .f32⟩
  | .hbm, ⟨5, _⟩ => ⟨S4096, .f32⟩
  | .hbm, ⟨6, _⟩ => ⟨S8x512, .f32⟩
  | .hbm, ⟨7, _⟩ => ⟨S8x512, .f32⟩
  | .hbm, ⟨8, _⟩ => ⟨S1x1, .f32⟩
  | .hbm, ⟨9, _⟩ => ⟨S_, .f32⟩
  | .local _ .vmem, ⟨0, _⟩ => ⟨S8x512, .f32⟩
  | .local _ .vmem, ⟨1, _⟩ => ⟨S8x512, .f32⟩
  | .local _ .vmem, ⟨2, _⟩ => ⟨S1x1, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_8 : BitVec 32 := 0#32
  let c8191_i32 : BitVec 32 := 8191#32
  let v18 : BitVec 32 := Scalar.addi c0_i32_8 c8191_i32
  let c1_i32 : BitVec 32 := 1#32
  ⟨c0_i32_8, v18, c1_i32⟩
abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "g_ln2" => some (((1 / 10) * (Real.log 2) : ℝ) : EReal)
  | "inv_g2" => some ((10 * (Real.log 2)⁻¹ : ℝ) : EReal)
  | "inv_ln2" => some (((Real.log 2)⁻¹ : ℝ) : EReal)
  | _ => none
-- ==== ReferenceIdeal.lean ====
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S2x4096 : Shape := ⟨2, ![2, 4096]⟩
abbrev S8191 : Shape := ⟨1, ![8191]⟩
abbrev S1 : Shape := ⟨1, ![1]⟩
abbrev S4096x2 : Shape := ⟨2, ![4096, 2]⟩
abbrev S4095 : Shape := ⟨1, ![4095]⟩
abbrev S3x4096 : Shape := ⟨2, ![3, 4096]⟩

abbrev nBuf : Space → Nat
  | .hbm => 148
  | .vmem => 0
  | .smem => 0
  | _ => 0

abbrev hbmTy0_0 (i : Nat) : BufTy := match i % 128 with
  | 0 => ⟨S4096, .f32⟩
  | 1 => ⟨S4096, .f32⟩
  | 2 => ⟨S4096x1, .f32⟩
  | 3 => ⟨S1x4096, .f32⟩
  | 4 => ⟨S4096x4096, .f32⟩
  | 5 => ⟨S4096x4096, .f32⟩
  | 6 => ⟨S4096x4096, .f32⟩
  | 7 => ⟨S4096x4096, .f32⟩
  | 8 => ⟨S4096, .i32⟩
  | 9 => ⟨S_, .f32⟩
  | 10 => ⟨S2x4096, .f32⟩
  | 11 => ⟨S8191, .i32⟩
  | 12 => ⟨S_, .i32⟩
  | 13 => ⟨S8191, .i32⟩
  | 14 => ⟨S4096, .i32⟩
  | 15 => ⟨S4096x4096, .f32⟩
  | 16 => ⟨S_, .i32⟩
  | 17 => ⟨S2x4096, .f32⟩
  | 18 => ⟨S_, .i32⟩
  | 19 => ⟨S_, .i1⟩
  | 20 => ⟨S1, .i32⟩
  | 21 => ⟨S_, .i32⟩
  | 22 => ⟨S1x4096, .f32⟩
  | 23 => ⟨S4096, .f32⟩
  | 24 => ⟨S1x4096, .f32⟩
  | 25 => ⟨S4096, .f32⟩
  | 26 => ⟨S4096, .i32⟩
  | 27 => ⟨S4096, .i32⟩
  | 28 => ⟨S_, .i32⟩
  | 29 => ⟨S4096, .i32⟩
  | 30 => ⟨S4096, .i1⟩
  | 31 => ⟨S_, .i32⟩
  | 32 => ⟨S4096, .i32⟩
  | 33 => ⟨S4096, .i1⟩
  | 34 => ⟨S4096, .i1⟩
  | 35 => ⟨S_, .i32⟩
  | 36 => ⟨S_, .i32⟩
  | 37 => ⟨S_, .i32⟩
  | 38 => ⟨S4096, .i32⟩
  | 39 => ⟨S4096, .i32⟩
  | 40 => ⟨S_, .i32⟩
  | 41 => ⟨S4096, .i32⟩
  | 42 => ⟨S4096, .i32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S_, .i32⟩
  | 51 => ⟨S4096, .i32⟩
  | 52 => ⟨S4096, .i1⟩
  | 53 => ⟨S_, .i32⟩
  | 54 => ⟨S4096, .i32⟩
  | 55 => ⟨S4096, .i32⟩
  | 56 => ⟨S4096, .i32⟩
  | 57 => ⟨S4096x1, .i32⟩
  | 58 => ⟨S4096x1, .i32⟩
  | 59 => ⟨S4096x2, .i32⟩
  | 60 => ⟨S4096, .f32⟩
  | 61 => ⟨S_, .i32⟩
  | 62 => ⟨S4096, .i32⟩
  | 63 => ⟨S4096, .i1⟩
  | 64 => ⟨S1, .f32⟩
  | 65 => ⟨S4095, .f32⟩
  | 66 => ⟨S4096, .f32⟩
  | 67 => ⟨S_, .f32⟩
  | 68 => ⟨S_, .f32⟩
  | 69 => ⟨S4096, .f32⟩
  | 70 => ⟨S4096, .f32⟩
  | 71 => ⟨S_, .i32⟩
  | 72 => ⟨S4096, .i32⟩
  | 73 => ⟨S4096, .i1⟩
  | 74 => ⟨S_, .f32⟩
  | 75 => ⟨S_, .f32⟩
  | 76 => ⟨S4096, .f32⟩
  | 77 => ⟨S4096, .f32⟩
  | 78 => ⟨S_, .i32⟩
  | 79 => ⟨S4096, .i32⟩
  | 80 => ⟨S4096, .i1⟩
  | 81 => ⟨S_, .i32⟩
  | 82 => ⟨S4096, .i32⟩
  | 83 => ⟨S4096, .i1⟩
  | 84 => ⟨S4096, .i1⟩
  | 85 => ⟨S1, .f32⟩
  | 86 => ⟨S4095, .f32⟩
  | 87 => ⟨S4096, .f32⟩
  | 88 => ⟨S_, .f32⟩
  | 89 => ⟨S_, .f32⟩
  | 90 => ⟨S4096, .f32⟩
  | 91 => ⟨S4096, .f32⟩
  | 92 => ⟨S_, .i32⟩
  | 93 => ⟨S4096, .i32⟩
  | 94 => ⟨S4096, .i1⟩
  | 95 => ⟨S_, .i32⟩
  | 96 => ⟨S4096, .i32⟩
  | 97 => ⟨S4096, .i1⟩
  | 98 => ⟨S4096, .i1⟩
  | 99 => ⟨S_, .f32⟩
  | 100 => ⟨S_, .f32⟩
  | 101 => ⟨S4096, .f32⟩
  | 102 => ⟨S4096, .f32⟩
  | 103 => ⟨S1x4096, .f32⟩
  | 104 => ⟨S1x4096, .f32⟩
  | 105 => ⟨S1x4096, .f32⟩
  | 106 => ⟨S3x4096, .f32⟩
  | 107 => ⟨S_, .f32⟩
  | 108 => ⟨S3x4096, .f32⟩
  | 109 => ⟨S3x4096, .f32⟩
  | 110 => ⟨S_, .f32⟩
  | 111 => ⟨S4096, .f32⟩
  | 112 => ⟨S4096, .f32⟩
  | 113 => ⟨S_, .f32⟩
  | 114 => ⟨S4096, .f32⟩
  | 115 => ⟨S4096, .i1⟩
  | 116 => ⟨S_, .f32⟩
  | 117 => ⟨S_, .f32⟩
  | 118 => ⟨S4096, .f32⟩
  | 119 => ⟨S4096, .f32⟩
  | 120 => ⟨S1x4096, .f32⟩
  | 121 => ⟨S3x4096, .f32⟩
  | 122 => ⟨S3x4096, .f32⟩
  | 123 => ⟨S3x4096, .f32⟩
  | 124 => ⟨S_, .f32⟩
  | 125 => ⟨S4096, .f32⟩
  | 126 => ⟨S4096, .f32⟩
  | 127 => ⟨S4096, .f32⟩
  | _ => ⟨S4096, .f32⟩

abbrev hbmTy0_1 (i : Nat) : BufTy := match i % 128 with
  | 0 => ⟨S_, .f32⟩
  | 1 => ⟨S4096, .f32⟩
  | 2 => ⟨S4096, .f32⟩
  | 3 => ⟨S4096, .f32⟩
  | 4 => ⟨S_, .f32⟩
  | 5 => ⟨S_, .f32⟩
  | 6 => ⟨S4096, .f32⟩
  | 7 => ⟨S4096, .f32⟩
  | 8 => ⟨S1x4096, .f32⟩
  | 9 => ⟨S1x4096, .f32⟩
  | 10 => ⟨S2x4096, .f32⟩
  | 11 => ⟨S_, .i32⟩
  | 12 => ⟨S_, .i32⟩
  | 13 => ⟨S1x4096, .f32⟩
  | 14 => ⟨S4096, .f32⟩
  | 15 => ⟨S1x4096, .f32⟩
  | 16 => ⟨S4096, .f32⟩
  | 17 => ⟨S1, .f32⟩
  | 18 => ⟨S_, .f32⟩
  | 19 => ⟨S_, .f32⟩
  | _ => ⟨S4096, .f32⟩

abbrev hbmTy (i : Nat) : BufTy := match i / 128 with
  | 0 => hbmTy0_0 i
  | 1 => hbmTy0_1 i
  | _ => ⟨S4096, .f32⟩

abbrev bufTy : (tb : Table) → Fin (tcTables nBuf tb) → BufTy
  | .hbm, ⟨i, _⟩ => hbmTy i
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev main_v9_4 : Ref sig .tc := ⟨.hbm, 17, rfl⟩
abbrev main_while0c_c_4 : Ref sig .tc := ⟨.hbm, 18, rfl⟩
abbrev main_while0c_v17 : Ref sig .tc := ⟨.hbm, 19, rfl⟩
abbrev main_while0b_call0_v0 : Ref sig .tc := ⟨.hbm, 20, rfl⟩
abbrev main_while0b_v17 : Ref sig .tc := ⟨.hbm, 21, rfl⟩
abbrev main_while0b_v18 : Ref sig .tc := ⟨.hbm, 22, rfl⟩
abbrev main_while0b_v19 : Ref sig .tc := ⟨.hbm, 23, rfl⟩
abbrev main_while0b_v20 : Ref sig .tc := ⟨.hbm, 24, rfl⟩
abbrev main_while0b_v21 : Ref sig .tc := ⟨.hbm, 25, rfl⟩
abbrev main_while0b_v22 : Ref sig .tc := ⟨.hbm, 26, rfl⟩
abbrev main_while0b_v23 : Ref sig .tc := ⟨.hbm, 27, rfl⟩
abbrev main_while0b_c_4 : Ref sig .tc := ⟨.hbm, 28, rfl⟩
abbrev main_while0b_v24 : Ref sig .tc := ⟨.hbm, 29, rfl⟩
abbrev main_while0b_v25 : Ref sig .tc := ⟨.hbm, 30, rfl⟩
abbrev main_while0b_c_5 : Ref sig .tc := ⟨.hbm, 31, rfl⟩
abbrev main_while0b_v26 : Ref sig .tc := ⟨.hbm, 32, rfl⟩
abbrev main_while0b_v27 : Ref sig .tc := ⟨.hbm, 33, rfl⟩
abbrev main_while0b_v28 : Ref sig .tc := ⟨.hbm, 34, rfl⟩
abbrev main_while0b_c_6 : Ref sig .tc := ⟨.hbm, 35, rfl⟩
abbrev main_while0b_c_7 : Ref sig .tc := ⟨.hbm, 36, rfl⟩
abbrev main_while0b_call1_v0 : Ref sig .tc := ⟨.hbm, 37, rfl⟩
abbrev main_while0b_call1_v1 : Ref sig .tc := ⟨.hbm, 38, rfl⟩
abbrev main_while0b_call1_v2 : Ref sig .tc := ⟨.hbm, 39, rfl⟩
abbrev main_while0b_call1_v3 : Ref sig .tc := ⟨.hbm, 40, rfl⟩
abbrev main_while0b_call1_v4 : Ref sig .tc := ⟨.hbm, 41, rfl⟩
abbrev main_while0b_v29 : Ref sig .tc := ⟨.hbm, 42, rfl⟩
abbrev main_while0b_c_8 : Ref sig .tc := ⟨.hbm, 43, rfl⟩
abbrev main_while0b_v30 : Ref sig .tc := ⟨.hbm, 44, rfl⟩
abbrev main_while0b_v31 : Ref sig .tc := ⟨.hbm, 45, rfl⟩
abbrev main_while0b_c_9 : Ref sig .tc := ⟨.hbm, 46, rfl⟩
abbrev main_while0b_v32 : Ref sig .tc := ⟨.hbm, 47, rfl⟩
abbrev main_while0b_v33 : Ref sig .tc := ⟨.hbm, 48, rfl⟩
abbrev main_while0b_v34 : Ref sig .tc := ⟨.hbm, 49, rfl⟩
abbrev main_while0b_c_10 : Ref sig .tc := ⟨.hbm, 50, rfl⟩
abbrev main_while0b_v35 : Ref sig .tc := ⟨.hbm, 51, rfl⟩
abbrev main_while0b_v36 : Ref sig .tc := ⟨.hbm, 52, rfl⟩
abbrev main_while0b_c_11 : Ref sig .tc := ⟨.hbm, 53, rfl⟩
abbrev main_while0b_v37 : Ref sig .tc := ⟨.hbm, 54, rfl⟩
abbrev main_while0b_v38 : Ref sig .tc := ⟨.hbm, 55, rfl⟩
abbrev main_while0b_v39 : Ref sig .tc := ⟨.hbm, 56, rfl⟩
abbrev main_while0b_v40 : Ref sig .tc := ⟨.hbm, 57, rfl⟩
abbrev main_while0b_v41 : Ref sig .tc := ⟨.hbm, 58, rfl⟩
abbrev main_while0b_v42 : Ref sig .tc := ⟨.hbm, 59, rfl⟩
abbrev main_while0b_v43 : Ref sig .tc := ⟨.hbm, 60, rfl⟩
abbrev main_while0b_c_12 : Ref sig .tc := ⟨.hbm, 61, rfl⟩
abbrev main_while0b_v44 : Ref sig .tc := ⟨.hbm, 62, rfl⟩
abbrev main_while0b_v45 : Ref sig .tc := ⟨.hbm, 63, rfl⟩
abbrev main_while0b_call2_v0 : Ref sig .tc := ⟨.hbm, 64, rfl⟩
abbrev main_while0b_call2_v1 : Ref sig .tc := ⟨.hbm, 65, rfl⟩
abbrev main_while0b_v46 : Ref sig .tc := ⟨.hbm, 66, rfl⟩
abbrev main_while0b_cst_13 : Ref sig .tc := ⟨.hbm, 67, rfl⟩
abbrev main_while0b_call3_v0 : Ref sig .tc := ⟨.hbm, 68, rfl⟩
abbrev main_while0b_call3_v1 : Ref sig .tc := ⟨.hbm, 69, rfl⟩
abbrev main_while0b_v47 : Ref sig .tc := ⟨.hbm, 70, rfl⟩
abbrev main_while0b_c_14 : Ref sig .tc := ⟨.hbm, 71, rfl⟩
abbrev main_while0b_v48 : Ref sig .tc := ⟨.hbm, 72, rfl⟩
abbrev main_while0b_v49 : Ref sig .tc := ⟨.hbm, 73, rfl⟩
abbrev main_while0b_cst_15 : Ref sig .tc := ⟨.hbm, 74, rfl⟩
abbrev main_while0b_call4_v0 : Ref sig .tc := ⟨.hbm, 75, rfl⟩
abbrev main_while0b_call4_v1 : Ref sig .tc := ⟨.hbm, 76, rfl⟩
abbrev main_while0b_v50 : Ref sig .tc := ⟨.hbm, 77, rfl⟩
abbrev main_while0b_c_16 : Ref sig .tc := ⟨.hbm, 78, rfl⟩
abbrev main_while0b_v51 : Ref sig .tc := ⟨.hbm, 79, rfl⟩
abbrev main_while0b_v52 : Ref sig .tc := ⟨.hbm, 80, rfl⟩
abbrev main_while0b_c_17 : Ref sig .tc := ⟨.hbm, 81, rfl⟩
abbrev main_while0b_v53 : Ref sig .tc := ⟨.hbm, 82, rfl⟩
abbrev main_while0b_v54 : Ref sig .tc := ⟨.hbm, 83, rfl⟩
abbrev main_while0b_v55 : Ref sig .tc := ⟨.hbm, 84, rfl⟩
abbrev main_while0b_call5_v0 : Ref sig .tc := ⟨.hbm, 85, rfl⟩
abbrev main_while0b_call5_v1 : Ref sig .tc := ⟨.hbm, 86, rfl⟩
abbrev main_while0b_v56 : Ref sig .tc := ⟨.hbm, 87, rfl⟩
abbrev main_while0b_cst_18 : Ref sig .tc := ⟨.hbm, 88, rfl⟩
abbrev main_while0b_call6_v0 : Ref sig .tc := ⟨.hbm, 89, rfl⟩
abbrev main_while0b_call6_v1 : Ref sig .tc := ⟨.hbm, 90, rfl⟩
abbrev main_while0b_v57 : Ref sig .tc := ⟨.hbm, 91, rfl⟩
abbrev main_while0b_c_19 : Ref sig .tc := ⟨.hbm, 92, rfl⟩
abbrev main_while0b_v58 : Ref sig .tc := ⟨.hbm, 93, rfl⟩
abbrev main_while0b_v59 : Ref sig .tc := ⟨.hbm, 94, rfl⟩
abbrev main_while0b_c_20 : Ref sig .tc := ⟨.hbm, 95, rfl⟩
abbrev main_while0b_v60 : Ref sig .tc := ⟨.hbm, 96, rfl⟩
abbrev main_while0b_v61 : Ref sig .tc := ⟨.hbm, 97, rfl⟩
abbrev main_while0b_v62 : Ref sig .tc := ⟨.hbm, 98, rfl⟩
abbrev main_while0b_cst_21 : Ref sig .tc := ⟨.hbm, 99, rfl⟩
abbrev main_while0b_call7_v0 : Ref sig .tc := ⟨.hbm, 100, rfl⟩
abbrev main_while0b_call7_v1 : Ref sig .tc := ⟨.hbm, 101, rfl⟩
abbrev main_while0b_v63 : Ref sig .tc := ⟨.hbm, 102, rfl⟩
abbrev main_while0b_v64 : Ref sig .tc := ⟨.hbm, 103, rfl⟩
abbrev main_while0b_v65 : Ref sig .tc := ⟨.hbm, 104, rfl⟩
abbrev main_while0b_v66 : Ref sig .tc := ⟨.hbm, 105, rfl⟩
abbrev main_while0b_v67 : Ref sig .tc := ⟨.hbm, 106, rfl⟩
abbrev main_while0b_cst_22 : Ref sig .tc := ⟨.hbm, 107, rfl⟩
abbrev main_while0b_v68 : Ref sig .tc := ⟨.hbm, 108, rfl⟩
abbrev main_while0b_v69 : Ref sig .tc := ⟨.hbm, 109, rfl⟩
abbrev main_while0b_cst_23 : Ref sig .tc := ⟨.hbm, 110, rfl⟩
abbrev main_while0b_v70 : Ref sig .tc := ⟨.hbm, 111, rfl⟩
abbrev main_while0b_v71 : Ref sig .tc := ⟨.hbm, 112, rfl⟩
abbrev main_while0b_cst_24 : Ref sig .tc := ⟨.hbm, 113, rfl⟩
abbrev main_while0b_v72 : Ref sig .tc := ⟨.hbm, 114, rfl⟩
abbrev main_while0b_v73 : Ref sig .tc := ⟨.hbm, 115, rfl⟩
abbrev main_while0b_cst_25 : Ref sig .tc := ⟨.hbm, 116, rfl⟩
abbrev main_while0b_call8_v0 : Ref sig .tc := ⟨.hbm, 117, rfl⟩
abbrev main_while0b_call8_v1 : Ref sig .tc := ⟨.hbm, 118, rfl⟩
abbrev main_while0b_v74 : Ref sig .tc := ⟨.hbm, 119, rfl⟩
abbrev main_while0b_v75 : Ref sig .tc := ⟨.hbm, 120, rfl⟩
abbrev main_while0b_v76 : Ref sig .tc := ⟨.hbm, 121, rfl⟩
abbrev main_while0b_v77 : Ref sig .tc := ⟨.hbm, 122, rfl⟩
abbrev main_while0b_v78 : Ref sig .tc := ⟨.hbm, 123, rfl⟩
abbrev main_while0b_cst_26 : Ref sig .tc := ⟨.hbm, 124, rfl⟩
abbrev main_while0b_v79 : Ref sig .tc := ⟨.hbm, 125, rfl⟩
abbrev main_while0b_v80 : Ref sig .tc := ⟨.hbm, 126, rfl⟩
abbrev main_while0b_v81 : Ref sig .tc := ⟨.hbm, 127, rfl⟩
abbrev main_while0b_cst_27 : Ref sig .tc := ⟨.hbm, 128, rfl⟩
abbrev main_while0b_v82 : Ref sig .tc := ⟨.hbm, 129, rfl⟩
abbrev main_while0b_v83 : Ref sig .tc := ⟨.hbm, 130, rfl⟩
abbrev main_while0b_v84 : Ref sig .tc := ⟨.hbm, 131, rfl⟩
abbrev main_while0b_cst_28 : Ref sig .tc := ⟨.hbm, 132, rfl⟩
abbrev main_while0b_call9_v0 : Ref sig .tc := ⟨.hbm, 133, rfl⟩
abbrev main_while0b_call9_v1 : Ref sig .tc := ⟨.hbm, 134, rfl⟩
abbrev main_while0b_v85 : Ref sig .tc := ⟨.hbm, 135, rfl⟩
abbrev main_while0b_v86 : Ref sig .tc := ⟨.hbm, 136, rfl⟩
abbrev main_while0b_v87 : Ref sig .tc := ⟨.hbm, 137, rfl⟩
abbrev main_while0b_v88 : Ref sig .tc := ⟨.hbm, 138, rfl⟩
abbrev main_while0b_c_29 : Ref sig .tc := ⟨.hbm, 139, rfl⟩
abbrev main_while0b_v89 : Ref sig .tc := ⟨.hbm, 140, rfl⟩
abbrev main_v10 : Ref sig .tc := ⟨.hbm, 141, rfl⟩
abbrev main_v11 : Ref sig .tc := ⟨.hbm, 142, rfl⟩
abbrev main_v12 : Ref sig .tc := ⟨.hbm, 143, rfl⟩
abbrev main_v13 : Ref sig .tc := ⟨.hbm, 144, rfl⟩
abbrev main_v14 : Ref sig .tc := ⟨.hbm, 145, rfl⟩
abbrev main_v15 : Ref sig .tc := ⟨.hbm, 146, rfl⟩
abbrev main_v16 : Ref sig .tc := ⟨.hbm, 147, rfl⟩

abbrev nD : Nat := 1
abbrev τ : Topo := Topo.v7x

variable {F : FTy → Type} [FloatOps F]

abbrev main_while0_count : Scf.Loop 32 := ⟨0#32, 8191#32, 1#32⟩
-- ==== Proof.IdealBody.lean ====
/- The kernel over the ideal values as one run: what its loop carries from trip to trip, what its body leaves in the one
   output element, and what every launch of the whole program ends with. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Claim

@[expose] public section

set_option maxRecDepth 16384

noncomputable section

namespace Cert.Proof.IdealBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The loop's carried arrays -/

/-- The four arrays the wavefront loop carries: the anti-diagonal before the last one moved down a row, the last
    anti-diagonal, the last one moved down a row, and the second series turned to the current anti-diagonal. -/
abbrev Wave (F : FTy → Type) [FloatOps F] : Type :=
  FVec F S8x512 .f32 × FVec F S8x512 .f32 × FVec F S8x512 .f32 × FVec F S8x512 .f32

/-- The new anti-diagonal that trip `k` computes from the first series' block `x` and the carried arrays. -/
def front (x : Vec F S8x512 .f32) (k : Fin k0_t1_loop.trips) (w : Wave F) : FVec F S8x512 .f32 :=
  k0_pay9 (k0_pay1 x) k0_pay3 (Scalar.ofBits .f32 0x501502F9#32) (Named.named κ "inv_g2" 0x4166D4CA#32)
    (Named.named κ "g_ln2" 0x3D8DF4E0#32) 0#32 1#32 k w.1 w.2.1 w.2.2.1 w.2.2.2

/-- The new anti-diagonal moved down a row, before the first row is filled in. -/
def frontDown (x : Vec F S8x512 .f32) (k : Fin k0_t1_loop.trips) (w : Wave F) : FVec F S8x512 .f32 :=
  k0_pay10 (k0_pay1 x) k0_pay3 k0_pay4 (Scalar.ofBits .f32 0x501502F9#32) (Named.named κ "inv_g2" 0x4166D4CA#32)
    (Named.named κ "g_ln2" 0x3D8DF4E0#32) 0#32 1#32 k w.1 w.2.1 w.2.2.1 w.2.2.2

/-- One trip on the carried arrays. -/
def advance (x : Vec F S8x512 .f32) (k : Fin k0_t1_loop.trips) (w : Wave F) : Wave F :=
  (w.2.2.1, front x k w, k0_pay6 (frontDown x k w) (k0_pay11 (Scalar.ofBits .f32 0x501502F9#32)), k0_pay7 w.2.2.2)

/-- The carried arrays before the first trip. -/
def start (x y : Vec F S8x512 .f32) : Wave F := (k0_pay5 x, k0_pay5 x, k0_pay5 x, k0_pay2 y)

/-- The carried arrays before trip `n`; after the last trip they stay. -/
def wave (x y : Vec F S8x512 .f32) : ℕ → Wave F
  | 0 => start x y
  | n + 1 => if h : n < k0_t1_loop.trips then advance x ⟨n, h⟩ (wave x y n) else wave x y n

theorem wave_succ (x y : Vec F S8x512 .f32) (k : Fin k0_t1_loop.trips) :
    wave x y (k.val + 1) = advance x k (wave x y k.val) := by
  rw [wave, dif_pos k.isLt]

/-- One trip's region takes the carried arrays before trip `k` to those before the next. -/
theorem trip_sound (c : Dev nD) (arg0 : Memref sig .tc .vmem S8x512 .f32) (harg0 : arg0.IsWhole)
    (arg1 : Memref sig .tc .vmem S8x512 .f32) (harg1 : arg1.IsWhole) (arg2 : Memref sig .tc .vmem S1x1 .f32)
    (harg2 : arg2.IsWhole) (x y : Vec F S8x512 .f32) (E : Set ℕ) (k : Fin k0_t1_loop.trips) (w : Wave F) :
    (iprop(⌜w = wave x y k.val⌝) : sProp 𝕄)
      ⊢ wp frame (wpE (defs₀ (F := F)) Variants.none (c : Thread nD τ) none) E
          (k0_t1_body arg0 harg0 arg1 harg1 arg2 harg2 x (Scalar.ofBits .f32 0x501502F9#32)
            (Named.named κ "inv_g2" 0x4166D4CA#32) (Named.named κ "g_ln2" 0x3D8DF4E0#32) k w)
          (fun w' => iprop(⌜w' = wave x y (k.val + 1)⌝)) := by
  rw [show k0_t1_body arg0 harg0 arg1 harg1 arg2 harg2 x (Scalar.ofBits .f32 0x501502F9#32)
      (Named.named κ "inv_g2" 0x4166D4CA#32) (Named.named κ "g_ln2" 0x3D8DF4E0#32) k w = .ret (advance x k w) from rfl,
    wp_ret]
  iintro %hw
  imodintro
  ipureintro
  rw [wave_succ, hw]

/-- The loop's invariant: before trip `k` the carried arrays are `wave x y k`; it holds no memory. -/
@[sl_loop, instance_reducible] def waveInv (c : Dev nD) (arg0 : Memref sig .tc .vmem S8x512 .f32) (harg0 : arg0.IsWhole)
    (arg1 : Memref sig .tc .vmem S8x512 .f32) (harg1 : arg1.IsWhole) (arg2 : Memref sig .tc .vmem S1x1 .f32)
    (harg2 : arg2.IsWhole) (x y : Vec F S8x512 .f32) :
    LoopInvTy_k0_t1 (F := F) Unit ℕ (UR sig nD τ) ℕ Variants.none c none Set.univ arg0 harg0 arg1 harg1 arg2 harg2 x
      (Scalar.ofBits .f32 0x501502F9#32) (Named.named κ "inv_g2" 0x4166D4CA#32) (Named.named κ "g_ln2" 0x3D8DF4E0#32)
      (start x y) where
  inv k w := iprop(⌜w = wave x y k⌝)
  step k w := trip_sound c arg0 harg0 arg1 harg1 arg2 harg2 x y Set.univ k w

/-! ## What the body leaves in the output window's buffer -/

abbrev rX : Rect S8x512 := Rect.unit (s := S8x512) ![0, 0] S8x512.size inb_S8x512_S8x512_0_0
abbrev rO : Rect S1x1 := Rect.unit (s := S1x1) ![0, 0] S1x1.size inb_S1x1_S1x1_0_0

/-- The output element from the two input blocks: the last element of the last anti-diagonal, its absolute value. -/
def result (x y : Vec F S8x512 .f32) : FVec F S1x1 .f32 :=
  k0_pay8 (wave x y k0_t1_loop.trips).2.1

/-- The output buffer after the body's one store. -/
def outBuf (x y : Vec F S8x512 .f32) : Vec F S1x1 .f32 :=
  View.canon [⟨rO, result (View.ld x rX) (View.ld y rX)⟩]

theorem outBuf_cover (p : Vec F S1x1 .f32) (i : S1x1.Idx) :
    ∃ pc ∈ ([⟨rO, p⟩] : List (View.Piece (Elt F) S1x1 .f32)), i ∈ pc.1.set :=
  View.cover_of_tiled [⟨rO, p⟩] S1x1.size (by rfl) i

theorem sound_kernel (c : Dev nD) (arg0 : Memref sig .tc .vmem S8x512 .f32) (harg0 : arg0.IsWhole)
    (arg1 : Memref sig .tc .vmem S8x512 .f32) (harg1 : arg1.IsWhole) (arg2 : Memref sig .tc .vmem S1x1 .f32)
    (harg2 : arg2.IsWhole) (x y : Vec F S8x512 .f32) (K : PUnit → sProp 𝕄) :
    iprop(owns (c : Thread nD τ) arg0 fullShare x ∗ owns (c : Thread nD τ) arg1 fullShare y
        ∗ (∃ d, owns (c : Thread nD τ) arg2 fullShare d)
        ∗ (iprop(owns (c : Thread nD τ) arg0 fullShare x ∗ owns (c : Thread nD τ) arg1 fullShare y
            ∗ owns (c : Thread nD τ) arg2 fullShare (outBuf x y)) -∗ K ⟨⟩))
      ⊢ wp frame (wpE (defs₀ (F := F)) Variants.none c none) Set.univ
          (cc0__sdtw_kernel arg0 harg0 arg1 harg1 arg2 harg2) K := by
  simp only [cc0__sdtw_kernel_eq_skeleton]; unfold cc0__sdtw_kernel_skel
  dsimp only
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outBuf_cover _)

/-! ## The launch -/

variable (m : (ℓ : Loc nD τ sig) → Buf (Elt F) ℓ) (ρ : Dev nD → PrngReg)

/-- What the launch is proved with: the arrays as the kernel finds them, the input buffers left alone, the output buffer
    at the body's result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBuf (iblk m c 0 t) (iblk m c 1 t)
  Φ _ := Pipeline.ΦA spec0 c
  q _ := fullShare
  owed _ := 0

theorem dats_A (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_y (c : Dev nD) (t : Fin cfg0.N) : (dats m 0 c).after 1 t = iblk m c 1 t := by dsimp only [dats]
theorem after_out (c : Dev nD) (t : Fin cfg0.N) :
    (dats m 0 c).after 2 t = outBuf (iblk m c 0 t) (iblk m c 1 t) := by dsimp only [dats]

theorem before_x (c : Dev nD) (t : Fin cfg0.N) (d) : (dats m 0 c).before 0 t d = iblk m c 0 t :=
  before0_0_of m (dats m 0 c) (dats_A m c 0) (after_x m c) t d
theorem before_y (c : Dev nD) (t : Fin cfg0.N) (d) : (dats m 0 c).before 1 t d = iblk m c 1 t :=
  before0_1_of m (dats m 0 c) (dats_A m c 1) (after_y m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_y]
  rw [show (dats m 0 c).Φ t.succ = (dats m 0 c).Φ t.castSucc from rfl,
    show (dats m 0 c).owesAt () t.succ = (dats m 0 c).owesAt () t.castSucc from rfl,
    after_x, after_y, after_out]
  iintro ⟨HΦ, Ho, ⟨%d0, H0⟩, ⟨%d1, H1⟩, ⟨%d2, H2⟩⟩
  iapply (sound_kernel c _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The call the pipeline makes at its one point is the body on the staging buffers. -/
theorem call_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, call_row]
  exact triple_restated (sound_body m c t) rfl .rfl fun _ => .rfl

/-- What every buffer holds after the run. -/
abbrev finalV : (c : Dev nD) → (b : Ref sig .tc) → Buf (Elt F) ((c : Thread nD τ).loc b) :=
  Pipeline.afterTail₀ cfgs (dats m) 0 (V0 m) [hostOps1]

set_option backward.isDefEq.respectTransparency.types false in
/-- Every launch ends, with the arrays as `dats` says, every other buffer as the operation after the kernel leaves it, and
    every semaphore at zero. -/
theorem run_quiescent : θ_run defs (onTc (τ := τ) (main (F := F))) (s₀ m ρ)
    (fun r => Pipeline.FramePost cfgs (dats m) 0 (finalV m) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := dats_A m) (hΦ := fun _ _ => rfl)

theorem run_values : θ_run defs (onTc (τ := τ) (main (F := F))) (s₀ m ρ)
    (Pipeline.FramePost cfgs (dats m) 0 (finalV m)) :=
  (θ_run defs _ _).mono (fun _ h => h.1) (run_quiescent m ρ)

/-- The frame: the arguments end as they began and every semaphore at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (dats_A m) (run_values m ρ))
    ((θ_run defs _ _).mono (fun _ h => h.2) (run_quiescent m ρ))

end Cert.Proof.IdealBody

end
-- ==== Proof.SoftMin.lean ====
/- The soft minimum of three extended reals, written twice: as the kernel computes it, by powers of two
   around the least of the three, and as the reference computes it, by the logarithm of a sum of
   exponentials around the largest of the three after the change of sign. The two are equal at every three
   extended reals, the infinities among them. -/
module

public import Idealize.ShloMosaic.PureOps.Ideal
public import Mathlib.Analysis.SpecialFunctions.Pow.Real

@[expose] public section

noncomputable section

namespace Cert.Proof.SoftMin

open Idealize.ShloMosaic

/-- The kernel's soft minimum: `m − γ ln 2 · log₂ Σ 2^((m − uₖ)/(γ ln 2))` with `m` the least entry and `γ = 1/10`. -/
def byMin (u l g : EReal) : EReal :=
  min (min u l) g - (((1 / 10) * Real.log 2 : ℝ) : EReal) *
    (Ideal.log (Ideal.exp2 ((min (min u l) g - u) * ((10 * (Real.log 2)⁻¹ : ℝ) : EReal))
      + Ideal.exp2 ((min (min u l) g - l) * ((10 * (Real.log 2)⁻¹ : ℝ) : EReal))
      + Ideal.exp2 ((min (min u l) g - g) * ((10 * (Real.log 2)⁻¹ : ℝ) : EReal)))
      * (((Real.log 2)⁻¹ : ℝ) : EReal))

/-- The number that the reference takes out of the exponentials: the largest of three where it is finite, else zero. -/
def shift (a b c : EReal) : EReal :=
  if max (max (max a b) c) (-(max (max a b) c)) < ⊤ then max (max a b) c else 0

/-- The reference's log-sum-exp of three numbers. -/
def lse (a b c : EReal) : EReal :=
  Ideal.log (Ideal.exp (a - shift a b c) + Ideal.exp (b - shift a b c) + Ideal.exp (c - shift a b c)) + shift a b c

/-- The reference's soft minimum: the log-sum-exp of the entries times `−10`, divided by `−10`. -/
def byLse (u l g : EReal) : EReal :=
  Ideal.div (lse (u * ((-10 : ℝ) : EReal)) (l * ((-10 : ℝ) : EReal)) (g * ((-10 : ℝ) : EReal))) ((-10 : ℝ) : EReal)

theorem div_neg_ten (x : EReal) : Ideal.div x ((-10 : ℝ) : EReal) = x * ((-(1 / 10) : ℝ) : EReal) := by
  have h : ((-10 : ℝ) : EReal) ≠ 0 := by
    rw [Ne, EReal.coe_eq_zero]; norm_num
  unfold Ideal.div
  rw [if_neg h, ← EReal.coe_inv]
  norm_num

theorem top_neg_ten : (⊤ : EReal) * ((-10 : ℝ) : EReal) = ⊥ := EReal.top_mul_coe_of_neg (by norm_num)
theorem bot_neg_ten : (⊥ : EReal) * ((-10 : ℝ) : EReal) = ⊤ := EReal.bot_mul_coe_of_neg (by norm_num)

theorem log2_pos : (0 : ℝ) < Real.log 2 := Real.log_pos (by norm_num)

/-- Times `−10` turns an order around. -/
theorem neg_ten_anti {a b : EReal} (h : a ≤ b) : b * ((-10 : ℝ) : EReal) ≤ a * ((-10 : ℝ) : EReal) := by
  induction a with
  | bot => rw [bot_neg_ten]; exact le_top
  | top => rw [top_le_iff.mp h]
  | coe x =>
    induction b with
    | bot => exact absurd h (by simp)
    | top => rw [top_neg_ten]; exact bot_le
    | coe y =>
      rw [← EReal.coe_mul, ← EReal.coe_mul, EReal.coe_le_coe_iff]
      have := EReal.coe_le_coe_iff.mp h
      linarith

/-- The largest entry after the change of sign is the least entry's. -/
theorem max_neg_ten (u l g : EReal) :
    max (max (u * ((-10 : ℝ) : EReal)) (l * ((-10 : ℝ) : EReal))) (g * ((-10 : ℝ) : EReal))
      = min (min u l) g * ((-10 : ℝ) : EReal) := by
  have h2 : ∀ a b : EReal, max (a * ((-10 : ℝ) : EReal)) (b * ((-10 : ℝ) : EReal)) = min a b * ((-10 : ℝ) : EReal) := by
    intro a b
    rcases le_total a b with h | h
    · rw [min_eq_left h, max_eq_left (neg_ten_anti h)]
    · rw [min_eq_right h, max_eq_right (neg_ten_anti h)]
  rw [h2, h2]

/-- One term of the sum, around a real least entry: the two programs' terms are one real number, not
    negative, and one at the least entry itself. -/
theorem term (m : ℝ) (u : EReal) (h : (m : EReal) ≤ u) :
    ∃ e : ℝ, 0 ≤ e ∧ (u = m → e = 1) ∧
      Ideal.exp2 (((m : EReal) - u) * ((10 * (Real.log 2)⁻¹ : ℝ) : EReal)) = (e : EReal) ∧
      Ideal.exp (u * ((-10 : ℝ) : EReal) - (m : EReal) * ((-10 : ℝ) : EReal)) = (e : EReal) := by
  induction u with
  | bot => exact absurd h (by simp)
  | top =>
    refine ⟨0, le_refl _, fun h => absurd h (by simp), ?_, ?_⟩
    · rw [show (m : EReal) - ⊤ = ⊥ from rfl, EReal.bot_mul_coe_of_pos (mul_pos (by norm_num) (inv_pos.mpr log2_pos))]
      rfl
    · rw [top_neg_ten, EReal.bot_sub]
      rfl
  | coe x =>
    refine ⟨Real.exp (x * (-10) - m * (-10)), (Real.exp_pos _).le, fun h => ?_, ?_, ?_⟩
    · rw [EReal.coe_eq_coe_iff.mp h]; simp
    · rw [← EReal.coe_sub, ← EReal.coe_mul]
      show ((Real.rpow 2 _ : ℝ) : EReal) = _
      congr 1
      rw [Real.rpow_eq_pow, Real.rpow_def_of_pos (by norm_num)]
      congr 1
      have := log2_pos.ne'
      field_simp
      ring
    · rw [← EReal.coe_mul, ← EReal.coe_mul, ← EReal.coe_sub]
      rfl

/-- An exponential is not `−∞`. -/
theorem exp_nonneg (x : EReal) : 0 ≤ Ideal.exp x := by
  induction x with
  | bot => exact le_refl _
  | top => exact le_top
  | coe r => exact EReal.coe_nonneg.mpr (Real.exp_pos r).le

theorem byMin_eq_byLse (u l g : EReal) : byMin u l g = byLse u l g := by
  have hu : min (min u l) g ≤ u := (min_le_left _ _).trans (min_le_left _ _)
  have hl : min (min u l) g ≤ l := (min_le_left _ _).trans (min_le_right _ _)
  have hg : min (min u l) g ≤ g := min_le_right _ _
  have hatt : u = min (min u l) g ∨ l = min (min u l) g ∨ g = min (min u l) g := by
    rcases min_choice (min u l) g with h | h
    · rcases min_choice u l with h' | h'
      · exact .inl (by rw [h, h'])
      · exact .inr (.inl (by rw [h, h']))
    · exact .inr (.inr h.symm)
  unfold byMin byLse lse shift
  rw [max_neg_ten, div_neg_ten]
  generalize min (min u l) g = m at *
  have hc : (0 : ℝ) < 10 * (Real.log 2)⁻¹ := mul_pos (by norm_num) (inv_pos.mpr log2_pos)
  have hi : (0 : ℝ) < (Real.log 2)⁻¹ := inv_pos.mpr log2_pos
  have hG : (0 : ℝ) < (1 / 10) * Real.log 2 := mul_pos (by norm_num) log2_pos
  induction m with
  | bot =>
    have hsub : ∀ x : EReal, (⊥ : EReal) - x = ⊥ := fun x => EReal.bot_sub x
    simp only [hsub, EReal.bot_mul_coe_of_pos hc, bot_neg_ten]
    rw [if_neg (by simp)]
    have key : Ideal.exp (u * ((-10 : ℝ) : EReal) - 0) + Ideal.exp (l * ((-10 : ℝ) : EReal) - 0)
        + Ideal.exp (g * ((-10 : ℝ) : EReal) - 0) = ⊤ := by
      have ht : Ideal.exp ((⊥ : EReal) * ((-10 : ℝ) : EReal) - 0) = ⊤ := by
        rw [bot_neg_ten, sub_zero]; rfl
      have hb : ∀ x : EReal, Ideal.exp x ≠ ⊥ := fun x h =>
        absurd (exp_nonneg x) (by rw [h]; simp)
      rcases hatt with h | h | h
      · rw [h, ht, EReal.top_add_of_ne_bot (hb _), EReal.top_add_of_ne_bot (hb _)]
      · rw [h, ht, EReal.add_top_of_ne_bot (hb _), EReal.top_add_of_ne_bot (hb _)]
      · rw [h, ht, EReal.add_top_of_ne_bot]
        intro hh
        have := add_nonneg (exp_nonneg (u * ((-10 : ℝ) : EReal) - 0)) (exp_nonneg (l * ((-10 : ℝ) : EReal) - 0))
        rw [hh] at this
        exact absurd this (by simp)
    rw [key]
    show (⊥ : EReal) = (⊤ + 0) * _
    rw [add_zero, EReal.top_mul_coe_of_neg (by norm_num)]
  | top =>
    rw [top_le_iff.mp hu, top_le_iff.mp hl, top_le_iff.mp hg, top_neg_ten]
    have hlog : Ideal.log (0 + 0 + 0 : EReal) = ⊥ := by
      rw [add_zero, add_zero, ← EReal.coe_zero]
      show (if (0 : ℝ) ≤ 0 then _ else _) = _
      rw [if_pos le_rfl]
    have hsub : (⊤ : EReal) - ⊤ = ⊥ := rfl
    have h0 : Ideal.exp2 (⊥ : EReal) = 0 := rfl
    have h1 : Ideal.exp (⊥ : EReal) = 0 := rfl
    rw [hsub, EReal.bot_mul_coe_of_pos hc, h0, hlog, EReal.bot_mul_coe_of_pos hi, EReal.coe_mul_bot_of_pos hG,
      if_neg (by simp), EReal.bot_sub, h1, hlog, add_zero, EReal.bot_mul_coe_of_neg (by norm_num)]
    rfl
  | coe m =>
    obtain ⟨e1, p1, q1, a1, b1⟩ := term m u hu
    obtain ⟨e2, p2, q2, a2, b2⟩ := term m l hl
    obtain ⟨e3, p3, q3, a3, b3⟩ := term m g hg
    have hpos : 0 < e1 + e2 + e3 := by
      rcases hatt with h | h | h
      · have := q1 h; linarith
      · have := q2 h; linarith
      · have := q3 h; linarith
    have hfin : max ((m : EReal) * ((-10 : ℝ) : EReal)) (-((m : EReal) * ((-10 : ℝ) : EReal))) < ⊤ := by
      rw [← EReal.coe_mul, ← EReal.coe_neg]
      exact max_lt (EReal.coe_lt_top _) (EReal.coe_lt_top _)
    rw [if_pos hfin, a1, a2, a3, b1, b2, b3, ← EReal.coe_add, ← EReal.coe_add]
    have hlog : Ideal.log ((e1 + e2 + e3 : ℝ) : EReal) = ((Real.log (e1 + e2 + e3) : ℝ) : EReal) := by
      show (if _ ≤ (0 : ℝ) then _ else _) = _
      rw [if_neg (not_le.mpr hpos)]
    rw [hlog, ← EReal.coe_mul, ← EReal.coe_mul, ← EReal.coe_sub, ← EReal.coe_mul, ← EReal.coe_add, ← EReal.coe_mul,
      EReal.coe_eq_coe_iff]
    have := log2_pos.ne'
    field_simp
    ring

end Cert.Proof.SoftMin

end
-- ==== Proof.Model.lean ====
/- The recursion both programs run, over extended reals and natural row numbers: the anti-diagonals of the alignment
   table, each from the two before it. -/
module

public import proofs.«01_k».proof.Proof.SoftMin

@[expose] public section

noncomputable section

namespace Cert.Proof.Model

open Idealize.ShloMosaic

/-- The large number that stands for `+∞` outside the table. -/
def big : EReal := Ideal.ofBits .f32 0x501502F9#32

/-- A diagonal moved down a row: row `i` gets the entry of row `i − 1`, the first row gets `big`. -/
def down (p : ℕ → EReal) (i : ℕ) : EReal := if 0 < i then p (i - 1) else big

/-- The diagonal at step `t` from the last one, `q`, and the one before it, `p`: row `i` holds the entry of row `i` and
    column `t − i` where that column exists. `soft` is the soft minimum, `D i j` the cost of pairing `i` with `j`. -/
def next (soft : EReal → EReal → EReal → EReal) (D : ℕ → ℕ → EReal) (t : ℕ) (p q : ℕ → EReal) (i : ℕ) : EReal :=
  if i ≤ t ∧ t < i + 4096 then
    D i (t - i) + soft (down q i) (if i < t then q i else big) (if t = 0 ∧ i = 0 then 0 else if i < t then down p i else big)
  else big

/-- The last two diagonals before step `t`. -/
def diagonals (soft : EReal → EReal → EReal → EReal) (D : ℕ → ℕ → EReal) : ℕ → (ℕ → EReal) × (ℕ → EReal)
  | 0 => (fun _ => big, fun _ => big)
  | t + 1 => ((diagonals soft D t).2, next soft D t (diagonals soft D t).1 (diagonals soft D t).2)

/-- A series read at a natural number. -/
def at4096 (v : Fin 4096 → EReal) (n : ℕ) : EReal := v ⟨n % 4096, Nat.mod_lt _ (by norm_num)⟩

theorem at4096_of_lt (v : Fin 4096 → EReal) {n : ℕ} (h : n < 4096) : at4096 v n = v ⟨n, h⟩ :=
  congrArg v (Fin.ext (Nat.mod_eq_of_lt h))

/-- The squared difference of an entry of the first series and one of the second. -/
def cost (x y : Fin 4096 → EReal) (i j : ℕ) : EReal :=
  (at4096 x i - at4096 y j) * (at4096 x i - at4096 y j)

/-- The two soft minima give the same diagonals. -/
theorem diagonals_byMin (D : ℕ → ℕ → EReal) : diagonals SoftMin.byMin D = diagonals SoftMin.byLse D := by
  rw [show SoftMin.byMin = SoftMin.byLse from
    funext fun u => funext fun l => funext fun g => SoftMin.byMin_eq_byLse u l g]

end Cert.Proof.Model

end
-- ==== Proof.Words.lean ====
/- The 32-bit index words of the two programs: what the comparisons of row and step numbers decide. No row and no step
   number reaches `2^31`, so that a signed word is the number itself. -/
module

public import Idealize.ShloMosaic.PureOps.Vector

@[expose] public section

namespace Cert.Proof.Words

open Idealize.ShloMosaic

theorem toInt_nat {n : ℕ} (h : n < 2 ^ 31) : (BitVec.ofNat 32 n).toInt = n := by
  rw [BitVec.toInt_eq_toNat_cond, BitVec.toNat_ofNat]; split <;> omega

/-- The difference of two numbers as a signed word. -/
theorem toInt_sub {t i : ℕ} (ht : t < 2 ^ 31) (hi : i < 2 ^ 31) :
    (IntOp.subi (BitVec.ofNat 32 t) (BitVec.ofNat 32 i)).toInt = (t : ℤ) - i := by
  unfold IntOp.subi
  rw [BitVec.toInt_sub, toInt_nat ht, toInt_nat hi, Int.bmod_def]; split <;> omega

theorem slt_eq (x y : BitVec 32) : IntOp.cmpi .slt x y = BitVec.ofBool (decide (x.toInt < y.toInt)) := rfl
theorem sle_eq (x y : BitVec 32) : IntOp.cmpi .sle x y = BitVec.ofBool (decide (x.toInt ≤ y.toInt)) := rfl
theorem sgt_eq (x y : BitVec 32) : IntOp.cmpi .sgt x y = BitVec.ofBool (decide (y.toInt < x.toInt)) := rfl
theorem sge_eq (x y : BitVec 32) : IntOp.cmpi .sge x y = BitVec.ofBool (decide (y.toInt ≤ x.toInt)) := rfl

theorem eq_eq (x y : BitVec 32) : IntOp.cmpi .eq x y = BitVec.ofBool (decide (x.toInt = y.toInt)) := by
  unfold IntOp.cmpi
  congr 1
  rw [Bool.eq_iff_iff]
  simp [BitVec.toInt_inj]

/-- A number as a word is the word of zero exactly when it is zero. -/
theorem eq_zero {n : ℕ} (h : n < 2 ^ 31) : IntOp.cmpi .eq (BitVec.ofNat 32 n) 0#32 = BitVec.ofBool (decide (n = 0)) := by
  rw [eq_eq, toInt_nat h]
  congr 1
  rw [decide_eq_decide]
  exact Nat.cast_eq_zero

theorem and_ofBool (p q : Bool) : IntOp.andi (BitVec.ofBool p) (BitVec.ofBool q) = BitVec.ofBool (p && q) := by
  cases p <;> cases q <;> rfl

theorem select_ofBool {α : Type} (p : Prop) [Decidable p] (a b : α) :
    Scalar.select (BitVec.ofBool (decide p)) a b = if p then a else b := by
  unfold Scalar.select
  by_cases h : p <;> simp [h]

end Cert.Proof.Words
-- ==== Proof.KernelStep.lean ====
/- One trip of the kernel's loop, read at one element of the 8 × 512 block. Row `i` of a diagonal lies at element
   `(i / 512, i % 512)`. -/
module

public import proofs.«01_k».proof.Proof.IdealBody
public import proofs.«01_k».proof.Proof.Model
public import proofs.«01_k».proof.Proof.Words
public import Idealize.ShloMosaic.Lib.Pointwise

@[expose] public section

set_option maxRecDepth 16384

noncomputable section

namespace Cert.Proof.KernelStep

open Cert.KernelIdeal Cert.KernelIdeal.Gen
open Idealize.ShloMosaic
open Cert.Proof.IdealBody Cert.Proof.Words Cert.Proof.Model

/-- The element of a block that holds row `i`. -/
def flat (v : FVec Ideal S8x512 .f32) (i : ℕ) : EReal :=
  v (ix2 (⟨i / 512 % 8, Nat.mod_lt _ (by norm_num)⟩ : Fin 8) (⟨i % 512, Nat.mod_lt _ (by norm_num)⟩ : Fin 512))

theorem flat_eq (v : FVec Ideal S8x512 .f32) (i : ℕ) (a : Fin 8) (b : Fin 512) (h : i = a.val * 512 + b.val) :
    v (ix2 a b) = flat v i := by
  unfold flat
  congr 2 <;> apply Fin.ext <;> simp only <;> omega

/-- The flat row number as a word. -/
theorem row_word (a b : ℕ) :
    IntOp.addi (IntOp.muli (BitVec.ofNat 32 a) 512#32) (BitVec.ofNat 32 b) = BitVec.ofNat 32 (a * 512 + b) := by
  unfold IntOp.addi IntOp.muli
  rw [BitVec.ofNat_add, BitVec.ofNat_mul]

/-- The loop's counter as a word. -/
theorem step_word (k : ℕ) : Scf.iv 0#32 1#32 k = BitVec.ofNat 32 k := by
  unfold Scf.iv; rw [BitVec.zero_add, BitVec.mul_one]

theorem trips_eq : k0_t1_loop.trips = 8191 := by decide

/-- The block turned by one row, the last row first. -/
theorem turn_flat (v : FVec Ideal S8x512 .f32) {i : ℕ} (hi : i < 4096) :
    flat (k0_pay7 v) i = flat v (if 0 < i then i - 1 else 4095) := by
  rw [flat]
  pointwise [k0_pay7, k0_pay4]
  rw [eq_zero (by omega), select_ofBool]
  by_cases h0 : 0 < i
  · rw [if_pos h0]
    split_ifs <;> first | omega | (apply flat_eq; simp only; omega)
  · rw [if_neg h0]
    split_ifs <;> first | omega | (apply flat_eq; simp only; omega)

/-- The new diagonal before the corner is filled in. -/
theorem frontDown_flat (x : Vec Ideal S8x512 .f32) (k : Fin k0_t1_loop.trips) (w : Wave Ideal) :
    frontDown x k w = k0_pay7 (front x k w) := rfl

/-- A block turned by one row and its first row filled with `big`: the diagonal moved down a row. -/
theorem down_flat (v : FVec Ideal S8x512 .f32) {i : ℕ} (hi : i < 4096) :
    flat (k0_pay6 (k0_pay7 v) (k0_pay11 (Scalar.ofBits .f32 0x501502F9#32))) i = down (flat v) i := by
  have h := turn_flat v hi
  rw [flat] at h ⊢
  pointwise [k0_pay6, k0_pay4, k0_pay11]
  rw [h]
  rw [eq_zero (by omega), eq_zero (by omega), and_ofBool, ← Bool.decide_and, select_ofBool]
  unfold down
  by_cases h0 : 0 < i
  · rw [if_pos h0, if_neg (by omega), if_pos h0]
  · rw [if_neg h0, if_pos (by omega), if_neg h0]
    rfl

/-- The blocks before the first trip hold `big` everywhere. -/
theorem start_flat (x : Vec Ideal S8x512 .f32) (i : ℕ) : flat (k0_pay5 x) i = big := by
  rw [flat]
  pointwise [k0_pay5, k0_pay1]
  rw [mul_zero, zero_add]
  rfl

/-- The new diagonal at row `i`. -/
theorem front_flat (x : Vec Ideal S8x512 .f32) (k : Fin k0_t1_loop.trips) (w : Wave Ideal) {i : ℕ} (hi : i < 4096) :
    flat (front x k w) i =
      if i ≤ k.val ∧ k.val < i + 4096 then
        (flat x i - flat w.2.2.2 i) * (flat x i - flat w.2.2.2 i)
          + SoftMin.byMin (flat w.2.2.1 i) (if i < k.val then flat w.2.1 i else big)
              (if k.val = 0 ∧ i = 0 then 0 else if i < k.val then flat w.1 i else big)
      else big := by
  have hk : k.val < 8191 := trips_eq ▸ k.isLt
  obtain ⟨a, b, hab⟩ : ∃ (a : Fin 8) (b : Fin 512), i = a.val * 512 + b.val :=
    ⟨⟨i / 512, by omega⟩, ⟨i % 512, by omega⟩, by simp only; omega⟩
  rw [← flat_eq _ i a b hab, ← flat_eq _ i a b hab, ← flat_eq _ i a b hab, ← flat_eq _ i a b hab, ← flat_eq _ i a b hab,
    ← flat_eq _ i a b hab]
  unfold front
  pointwise [k0_pay9, k0_pay3, k0_pay1]
  have hsub : (Scalar.subi (BitVec.ofNat 32 k.val) 4096#32).toInt = (k.val : ℤ) - 4096 :=
    toInt_sub (i := 4096) (by omega) (by omega)
  simp only [row_word, step_word, ← hab]
  have c1 : IntOp.cmpi .slt (BitVec.ofNat 32 i) (BitVec.ofNat 32 k.val) = BitVec.ofBool (decide (i < k.val)) := by
    rw [slt_eq, toInt_nat (by omega), toInt_nat (by omega)]; simp only [Nat.cast_lt]
  have c2 : IntOp.andi (Scalar.cmpi .eq (BitVec.ofNat 32 k.val) 0#32) (IntOp.cmpi .eq (BitVec.ofNat 32 i) 0#32)
      = BitVec.ofBool (decide (k.val = 0 ∧ i = 0)) := by
    rw [Scalar.cmpi, eq_zero (by omega), eq_zero (by omega), and_ofBool, ← Bool.decide_and]
  have c3 : IntOp.andi (IntOp.cmpi .sle (BitVec.ofNat 32 i) (BitVec.ofNat 32 k.val))
      (IntOp.cmpi .sgt (BitVec.ofNat 32 i) (Scalar.subi (BitVec.ofNat 32 k.val) 4096#32))
      = BitVec.ofBool (decide (i ≤ k.val ∧ k.val < i + 4096)) := by
    rw [sle_eq, sgt_eq, hsub, toInt_nat (by omega), toInt_nat (by omega), and_ofBool, ← Bool.decide_and]
    congr 1
    rw [decide_eq_decide]
    omega
  simp only [c1, c2, c3, select_ofBool]
  rfl

end Cert.Proof.KernelStep

end
-- ==== Proof.KernelWave.lean ====
/- What the kernel's loop has computed before each trip: the last two diagonals of the recursion, and the second series
   turned to the current diagonal. -/
module

public import proofs.«01_k».proof.Proof.KernelStep

@[expose] public section

noncomputable section

namespace Cert.Proof.KernelWave

open Cert.KernelIdeal Cert.KernelIdeal.Gen
open Idealize.ShloMosaic
open Cert.Proof.IdealBody Cert.Proof.Model Cert.Proof.KernelStep

/-- The carried arrays at row `i` before step `t`, for the cost `D` and the second series `T`. -/
def Holds (D : ℕ → ℕ → EReal) (T : ℕ → EReal) (t : ℕ) (w : Wave Ideal) (i : ℕ) : Prop :=
  flat w.1 i = down (diagonals SoftMin.byMin D t).1 i ∧ flat w.2.1 i = (diagonals SoftMin.byMin D t).2 i
    ∧ flat w.2.2.1 i = down (diagonals SoftMin.byMin D t).2 i ∧ flat w.2.2.2 i = T ((t + 4096 - i) % 4096)

theorem down_big (i : ℕ) : down (fun _ => big) i = big := by
  unfold down; split <;> rfl

theorem wave_holds (x y : Vec Ideal S8x512 .f32) (D : ℕ → ℕ → EReal) (T : ℕ → EReal)
    (hy : ∀ i < 4096, flat y i = T ((4096 - i) % 4096))
    (hD : ∀ i < 4096, ∀ j < 4096, D i j = (flat x i - T j) * (flat x i - T j)) :
    ∀ t ≤ 8191, ∀ i < 4096, Holds D T t (wave x y t) i := by
  intro t
  induction t with
  | zero =>
    intro _ i hi
    refine ⟨?_, ?_, ?_, ?_⟩
    · exact (start_flat x i).trans (down_big i).symm
    · exact start_flat x i
    · exact (start_flat x i).trans (down_big i).symm
    · rw [Nat.zero_add, ← hy i hi]
      show flat (k0_pay2 y) i = _
      rw [show k0_pay2 y = y from funext fun j => by pointwise [k0_pay2]]
  | succ t ih =>
    intro ht
    have ih := ih (by omega)
    have hk : t < k0_t1_loop.trips := by rw [trips_eq]; omega
    rw [wave_succ x y ⟨t, hk⟩]
    have hfront : ∀ i < 4096, flat (front x ⟨t, hk⟩ (wave x y t)) i = (diagonals SoftMin.byMin D (t + 1)).2 i := by
      intro i hi
      obtain ⟨h1, h2, h3, h4⟩ := ih i hi
      rw [front_flat x ⟨t, hk⟩ (wave x y t) hi, h1, h2, h3, h4]
      show _ = next _ _ _ _ _ _
      unfold next
      simp only
      split
      · rename_i hv
        rw [hD i hi (t - i) (by omega)]
        congr 2 <;> congr 2 <;> omega
      · rfl
    intro i hi
    obtain ⟨-, -, h3, -⟩ := ih i hi
    refine ⟨h3, hfront i hi, ?_, ?_⟩
    · show flat (k0_pay6 (frontDown x ⟨t, hk⟩ (wave x y t)) _) i = _
      rw [frontDown_flat, down_flat _ hi]
      unfold down
      split
      · exact hfront _ (by omega)
      · rfl
    · show flat (k0_pay7 (wave x y t).2.2.2) i = _
      rw [turn_flat _ hi]
      split
      · rw [(ih (i - 1) (by omega)).2.2.2]
        exact congrArg T (by omega)
      · rw [(ih 4095 (by omega)).2.2.2]
        exact congrArg T (by omega)

/-- What the body leaves in the output element. -/
theorem result_eq (x y : Vec Ideal S8x512 .f32) (D : ℕ → ℕ → EReal) (T : ℕ → EReal)
    (hy : ∀ i < 4096, flat y i = T ((4096 - i) % 4096))
    (hD : ∀ i < 4096, ∀ j < 4096, D i j = (flat x i - T j) * (flat x i - T j)) :
    result x y (ix2 0 0) = max ((diagonals SoftMin.byMin D 8191).2 4095) (-(diagonals SoftMin.byMin D 8191).2 4095) := by
  unfold result
  rw [trips_eq]
  pointwise [k0_pay8]
  rw [flat_eq (wave x y 8191).2.1 4095 7 511 rfl, (wave_holds x y D T hy hD 8191 le_rfl 4095 (by norm_num)).2.1]
  rfl

end Cert.Proof.KernelWave

end
-- ==== Proof.KernelLaunch.lean ====
/- What a launch of the kernel's program leaves in the result buffer: the output element of the body on the two series as
   the host lays them out in 8 × 512 blocks. -/
module

public import proofs.«01_k».proof.Proof.KernelWave
public import Idealize.ShloMosaic.Lib.StableHlo.ReadAt
public import Idealize.ShloMosaic.Lib.Pipeline.ValueKit.Point

@[expose] public section

set_option maxRecDepth 16384

noncomputable section

namespace Cert.Proof.KernelLaunch

open Cert.KernelIdeal Cert.KernelIdeal.Gen
open Idealize.ShloMosaic Idealize.ShloMosaic.TcCoe
open Cert.Proof.IdealBody Cert.Proof.Model Cert.Proof.KernelStep Cert.Proof.KernelWave

variable (m : (ℓ : Loc nD τ sig) → Buf (Elt Ideal) ℓ) (c : Dev nD)

/-- Each window is the whole array: its one block is block zero. -/
theorem index_x : ∀ t : Fin cfg0.N, win0_0.index t = ![0, 0] := by decide +kernel
theorem index_y : ∀ t : Fin cfg0.N, win0_1.index t = ![0, 0] := by decide +kernel

theorem blk_x : View.ld (iblk m c 0 t0_0) rX = V m c main_v3 := by
  funext j
  obtain ⟨a, b, rfl⟩ : ∃ (a : Fin 8) (b : Fin 512), j = ix2 a b := ⟨j 0, j 1, eq_ix2 j⟩
  pointwise
  blk_ext [iblk, index_x]

theorem blk_y : View.ld (iblk m c 1 t0_0) rX = V m c main_v2 := by
  funext j
  obtain ⟨a, b, rfl⟩ : ∃ (a : Fin 8) (b : Fin 512), j = ix2 a b := ⟨j 0, j 1, eq_ix2 j⟩
  pointwise
  blk_ext [iblk, index_y]

theorem v3_flat {i : ℕ} (hi : i < 4096) :
    flat (V m c main_v3) i = m ((c : Thread nD τ).loc main_arg0) (ix1 ⟨i, hi⟩) := by
  unfold flat V
  after_reads_at
  exact congrArg (fun k => m ((c : Thread nD τ).loc main_arg0) (ix1 k)) (Fin.ext (by simp only; omega))

theorem v2_flat {i : ℕ} (hi : i < 4096) : flat (V m c main_v2) i
    = m ((c : Thread nD τ).loc main_arg1) (ix1 ⟨(4096 - i) % 4096, Nat.mod_lt _ (by norm_num)⟩) := by
  unfold flat V
  after_reads_at
  split
  · after_reads_at
    exact congrArg (fun k => m ((c : Thread nD τ).loc main_arg1) (ix1 k)) (Fin.ext (by simp [Fin.val_rev]; omega))
  · after_reads_at
    exact congrArg (fun k => m ((c : Thread nD τ).loc main_arg1) (ix1 k)) (Fin.ext (by simp [Fin.val_rev]; omega))

theorem arr_out : (dats m 0 c).arrAt 2 (cfgs 0).N = fun _ => outBuf (iblk m c 0 t0_0) (iblk m c 1 t0_0) (ix2 0 0) := by
  refine (dats m 0 c).arrAt_eq_of_covers 2 _ (by decide +kernel) fun t hf y => ?_
  blk_simp
  rw [after_out]
  obtain rfl := fin_N0 t
  refine congrArg (outBuf _ _) (funext fun a => ?_)
  fin_cases a <;> exact Subsingleton.elim (α := Fin 1) _ _

theorem v5 : finalV m c main_v5 = fun _ => outBuf (iblk m c 0 t0_0) (iblk m c 1 t0_0) (ix2 0 0) := by
  unfold finalV Pipeline.afterTail₀
  funext j
  after_reads_at
  have h := Pipeline.withArrays_arr (cfgs 0).spec launch0.win.arr_inj c (V0 m c) (fun w => (dats m 0 c).arrAt w (cfgs 0).N) 2
  rw [arr_out] at h
  exact congrFun h (ix2 0 0)

/-- The output buffer's one element. -/
theorem out_elem (x y : Vec Ideal S8x512 .f32) :
    outBuf x y (ix2 0 0) = result (View.ld x rX) (View.ld y rX) (ix2 0 0) := by
  unfold outBuf
  frame_out

/-- The first series and the second, as a launch finds them. -/
def seriesX (i : Fin 4096) : EReal := m ((c : Thread nD τ).loc main_arg0) (ix1 i)
def seriesY (i : Fin 4096) : EReal := m ((c : Thread nD τ).loc main_arg1) (ix1 i)

/-- The result buffer after a launch: the absolute value of the last entry of the last diagonal. -/
theorem kernel_value : finalV m c main_v5 = fun _ =>
    max ((diagonals SoftMin.byMin (cost (seriesX m c) (seriesY m c)) 8191).2 4095)
      (-(diagonals SoftMin.byMin (cost (seriesX m c) (seriesY m c)) 8191).2 4095) := by
  rw [v5, out_elem, blk_x, blk_y,
    result_eq (V m c main_v3) (V m c main_v2) (cost (seriesX m c) (seriesY m c)) (at4096 (seriesY m c))
      (fun i hi => ?_) (fun i hi j hj => ?_)]
  · rw [v2_flat m c hi, at4096_of_lt _ (Nat.mod_lt _ (by norm_num))]
    rfl
  · rw [v3_flat m c hi, cost, at4096_of_lt _ hi]
    rfl

end Cert.Proof.KernelLaunch

end
-- ==== Proof.RefStep.lean ====
/- What one trip of the reference's loop computes at a row. -/
module

public import proofs.«01_k».proof.Proof.Gen.ReferenceIdeal.Step
public import proofs.«01_k».proof.Proof.Model
public import proofs.«01_k».proof.Proof.Words
public import Idealize.ShloMosaic.Lib.Pointwise

@[expose] public section

set_option maxRecDepth 16384

noncomputable section

namespace Cert.Proof.RefStep

open Cert.ReferenceIdeal Cert.ReferenceIdeal.Gen Cert.ReferenceIdeal.Step
open Idealize.ShloMosaic
open Cert.Proof.Words Cert.Proof.Model Cert.Proof.SoftMin

variable (j : ℕ) (s : State Ideal) (i : Fin 4096)

/-! ## The indices of a row at a step -/

/-- The step's number as a word. -/
theorem stepWord (hj : j < 8191) : b1 j s ix0 = BitVec.ofNat 32 j := by
  pointwise [b1, b0, K_main_v8]
  congr 1
  exact Host.clampedStart_of_le _ _ _ _ (toInt_nat (by omega)) (show j + 1 ≤ 8191 by omega)

/-- The column of row `i` at step `j`, which may lie outside the table. -/
theorem column (hj : j < 8191) : (b7 j s (ix1 i)).toInt = (j : ℤ) - (i : ℕ) := by
  have h : b7 j s (ix1 i) = IntOp.subi (b1 j s ix0) (BitVec.ofNat 32 i) := by pointwise [b7, b6, K_main_v6]
  have := i.isLt
  rw [h, stepWord j s hj, toInt_sub (by omega) (by omega)]

/-- Whether row `i` has a column at step `j`. -/
theorem inside (hj : j < 8191) :
    b14 j s (ix1 i) = BitVec.ofBool (decide ((i : ℕ) ≤ j ∧ j < (i : ℕ) + 4096)) := by
  have h : b14 j s (ix1 i) = IntOp.andi (IntOp.cmpi .sge (b7 j s (ix1 i)) 0#32) (IntOp.cmpi .slt (b7 j s (ix1 i)) 4096#32) := by
    pointwise [b14, b10, b13, b8, b9, b11, b12]
  have e0 : (0#32).toInt = 0 := rfl
  have e1 : (4096#32).toInt = 4096 := rfl
  rw [h, sge_eq, slt_eq, column j s i hj, e0, e1, and_ofBool, ← Bool.decide_and]
  congr 1
  rw [decide_eq_decide]
  omega

/-- A word that is not negative is its own wrapped index. -/
theorem wrap_self {w : BitVec 32} (v : BitVec 32) (h : 0 ≤ w.toInt) :
    Scalar.select (IntOp.cmpi .slt w 0#32) (IntOp.addi w v) w = w := by
  have e0 : (0#32).toInt = 0 := rfl
  rw [slt_eq, select_ofBool, e0, if_neg (by omega)]

/-- A word between the two bounds of the clipping stays as it is. -/
theorem clip_self {w : BitVec 32} (h : 0 ≤ w.toInt) (h' : w.toInt ≤ 4095) :
    IntOp.minsi 4095#32 (IntOp.maxsi 0#32 w) = w := by
  have e0 : (0#32).toInt = 0 := rfl
  have e1 : (4095#32).toInt = 4095 := rfl
  have hm : IntOp.maxsi 0#32 w = w := by
    unfold IntOp.maxsi
    rw [if_neg (by rw [BitVec.slt_iff_toInt_lt, e0]; omega)]
  unfold IntOp.minsi
  rw [hm, if_neg (by rw [BitVec.slt_iff_toInt_lt, e1]; omega)]

/-- The pair of indices at which a row that has a column reads the table of costs. -/
theorem pair (hj : j < 8191) (h : (i : ℕ) ≤ j ∧ j < (i : ℕ) + 4096) (k : Fin 2) :
    b39 j s (ix2 i k) = BitVec.ofNat 32 (if (k : ℕ) < 1 then (i : ℕ) else j - i) := by
  have hi := i.isLt
  have hc : b7 j s (ix1 i) = BitVec.ofNat 32 (j - i) :=
    BitVec.eq_of_toInt_eq (by rw [column j s i hj, toInt_nat (by omega)]; omega)
  have hp : b22 j s (ix1 i) = BitVec.ofNat 32 (j - i) := by
    have h : b22 j s (ix1 i) = IntOp.minsi 4095#32 (IntOp.maxsi 0#32 (b7 j s (ix1 i))) := by
      pointwise [b22, b15, b16, b17, b18, b19, b20, b21]
    rw [h, hc, clip_self (by rw [toInt_nat (by omega)]; omega) (by rw [toInt_nat (by omega)]; omega)]
  pointwise [b39, b38, b37, b36, b35, b34, b33, b32, b31, b30, b29, b28, b27, b26, b25, b24, b23, K_main_v6]
  rw [hp, wrap_self _ (by rw [toInt_nat (by omega)]; omega), wrap_self _ (by rw [toInt_nat (by omega)]; omega)]
  split <;> rfl

/-! ## The cost -/

/-- A table read at the pair of indices that each row of `idx` holds. -/
theorem gather_pair (x : S4096x4096.Idx → EReal) (idx : IVec S4096x2 32) (a b : Fin 4096)
    (h0 : idx (ix2 i 0) = BitVec.ofNat 32 a) (h1 : idx (ix2 i 1) = BitVec.ofNat 32 b) :
    Host.gather gather_S4096x4096_S4096x2_S4096_n_01_n_n_01_1_11 x idx (ix1 i) = x (ix2 a b) := by
  have ha := a.isLt
  have hb := b.isLt
  unfold Host.gather
  refine congrArg x (funext fun c => Fin.ext ?_)
  show GatherDims.start _ _ _ c + GatherDims.batchCoord _ _ c + GatherDims.offCoord _ _ c = _
  rw [GatherDims.batchCoord_eq_zero _ _ _ List.not_mem_nil, GatherDims.offCoord_eq_zero _ _ _ (fun h =>
    ((GatherDims.mem_sKept _ _).mp h).1 (by revert c; decide))]
  simp only [Nat.add_zero]
  unfold GatherDims.start
  rw [dif_pos (by revert c; decide)]
  have hsi : ∀ n hn, GatherDims.siIdx gather_S4096x4096_S4096x2_S4096_n_01_n_n_01_1_11 (ix1 i) ⟨n, hn⟩
      = (ix2 i (⟨n, hn⟩ : Fin 2) : S4096x2.Idx) := by
    intro n hn
    funext b; refine Fin.ext ?_
    match b with
    | ⟨0, _⟩ => rfl
    | ⟨1, _⟩ => rfl
  rw [hsi]
  match c with
  | ⟨0, _⟩ =>
    show min (idx (ix2 i 0)).toInt.toNat (4096 - 1) = a.val
    rw [h0, toInt_nat (by omega)]; omega
  | ⟨1, _⟩ =>
    show min (idx (ix2 i 1)).toInt.toNat (4096 - 1) = b.val
    rw [h1, toInt_nat (by omega)]; omega

/-- The cost that a row with a column adds. -/
theorem costs (D : ℕ → ℕ → EReal) (hD : ∀ a b : Fin 4096, s.main_v9_2 (ix2 a b) = D a b)
    (hj : j < 8191) (h : (i : ℕ) ≤ j ∧ j < (i : ℕ) + 4096) : b40 j s (ix1 i) = D i (j - i) := by
  unfold b40
  rw [gather_pair i _ _ i ⟨j - i, by omega⟩ (pair j s i hj h 0) (pair j s i hj h 1), hD]

/-! ## The three neighbours -/

section Soft

variable (P Q : ℕ → EReal) (hP : ∀ a : Fin 4096, s.main_v9_4 (ix2 0 a) = P a) (hQ : ∀ a : Fin 4096, s.main_v9_4 (ix2 1 a) = Q a)

/-- The number of a row, compared with the number zero. -/
theorem row_pos : IntOp.cmpi .sgt (BitVec.ofNat 32 (i : ℕ)) 0#32 = BitVec.ofBool (decide (0 < (i : ℕ))) := by
  have e0 : (0#32).toInt = 0 := rfl
  have := i.isLt
  rw [sgt_eq, toInt_nat (n := (i : ℕ)) (by omega), e0]
  congr 1
  rw [decide_eq_decide]
  omega

/-- The column of a row, compared with the number zero. -/
theorem column_pos (hj : j < 8191) : IntOp.cmpi .sgt (b7 j s (ix1 i)) 0#32 = BitVec.ofBool (decide ((i : ℕ) < j)) := by
  have e0 : (0#32).toInt = 0 := rfl
  rw [sgt_eq, column j s i hj, e0]
  congr 1
  rw [decide_eq_decide]
  omega

include hQ in
/-- The neighbour above: the last diagonal, a row down. -/
theorem above : b50 j s (ix1 i) = down Q i := by
  have h : b50 j s (ix1 i) = Scalar.select (IntOp.cmpi .sgt (BitVec.ofNat 32 (i : ℕ)) 0#32)
      (if h : (i : ℕ) < 1 then s.main_v9_4 (ix2 1 ⟨4095 + i, by omega⟩) else s.main_v9_4 (ix2 1 ⟨i - 1, by omega⟩)) big := by
    pointwise [b50, b49, b48, b47, b46, b45, b44, b43, b42, b41, b5, b4, K_main_v6]
    rfl
  rw [h, row_pos, select_ofBool, down]
  by_cases h0 : 0 < (i : ℕ)
  · rw [if_pos h0, if_pos h0, dif_neg (by omega), hQ]
  · rw [if_neg h0, if_neg h0]

include hQ in
/-- The neighbour on the left: the last diagonal at the same row. -/
theorem left (hj : j < 8191) : b57 j s (ix1 i) = if (i : ℕ) < j then Q i else big := by
  have h : b57 j s (ix1 i) = Scalar.select (IntOp.cmpi .sgt (b7 j s (ix1 i)) 0#32) (s.main_v9_4 (ix2 1 i)) big := by
    pointwise [b57, b56, b55, b54, b53, b52, b51, b5, b4]
    rfl
  rw [h, column_pos j s i hj, select_ofBool, hQ]

include hP in
/-- The neighbour on the diagonal: the diagonal before the last, a row down, and zero at the first entry. -/
theorem corner (hj : j < 8191) :
    b82 j s (ix1 i) = if j = 0 ∧ (i : ℕ) = 0 then 0 else if (i : ℕ) < j then down P i else big := by
  have h : b82 j s (ix1 i) = Scalar.select
      (IntOp.andi (IntOp.cmpi .eq (BitVec.ofNat 32 (i : ℕ)) 0#32) (IntOp.cmpi .eq (b7 j s (ix1 i)) 0#32)) 0
      (Scalar.select (IntOp.andi (IntOp.cmpi .sgt (BitVec.ofNat 32 (i : ℕ)) 0#32) (IntOp.cmpi .sgt (b7 j s (ix1 i)) 0#32))
        (if h : (i : ℕ) < 1 then s.main_v9_4 (ix2 0 ⟨4095 + i, by omega⟩) else s.main_v9_4 (ix2 0 ⟨i - 1, by omega⟩)) big) := by
    pointwise [b82, b81, b80, b79, b78, b77, b76, b75, b74, b73, b72, b71, b70, b69, b68, b67, b66, b65, b64, b63, b62, b61,
      b60, b59, b58, b3, b2, K_main_v6]
    rfl
  have e0 : (0#32).toInt = 0 := rfl
  have hi := i.isLt
  have hz : IntOp.cmpi .eq (b7 j s (ix1 i)) 0#32 = BitVec.ofBool (decide (j = i)) := by
    rw [eq_eq, column j s i hj, e0]
    congr 1
    rw [decide_eq_decide]
    omega
  rw [h, row_pos, column_pos j s i hj, hz, eq_zero (by omega), and_ofBool, and_ofBool, ← Bool.decide_and, ← Bool.decide_and,
    select_ofBool, select_ofBool]
  by_cases h0 : 0 < (i : ℕ)
  · rw [if_neg (show ¬((i : ℕ) = 0 ∧ j = i) by omega), if_neg (show ¬(j = 0 ∧ (i : ℕ) = 0) by omega)]
    by_cases hl : (i : ℕ) < j
    · rw [if_pos ⟨h0, hl⟩, if_pos hl, dif_neg (by omega), hP, down, if_pos h0]
    · rw [if_neg (by omega), if_neg hl]
  · by_cases hl : j = 0
    · rw [if_pos (show (i : ℕ) = 0 ∧ j = i by omega), if_pos (show j = 0 ∧ (i : ℕ) = 0 by omega)]
    · rw [if_neg (show ¬((i : ℕ) = 0 ∧ j = i) by omega), if_neg (show ¬(0 < (i : ℕ) ∧ (i : ℕ) < j) by omega),
        if_neg (show ¬(j = 0 ∧ (i : ℕ) = 0) by omega), down, if_neg h0, ite_self]

/-! ## The soft minimum -/

theorem neg_ten : Ideal.ofBits .f32 3240099840#32 = ((-10 : ℝ) : EReal) := by
  simp [Ideal.ofBits, Ideal.ieee, -EReal.coe_mul]; norm_num

/-- The three neighbours, one under another. -/
def three (a b c : EReal) (k : Fin 3) : EReal := if (k : ℕ) < 1 then a else if (k : ℕ) - 1 < 1 then b else c

/-- The largest of three numbers. -/
theorem fold_three (f : Fin 3 → EReal) : Finset.fold max ⊥ f Finset.univ = max (max (f 0) (f 1)) (f 2) := by
  show Finset.fold max (⊥ : EReal) f {0, 1, 2} = _
  rw [Finset.fold_insert (by decide), Finset.fold_insert (by decide), Finset.fold_singleton, max_bot_right, max_assoc]

theorem word_bot : Ideal.ofBits .f32 4286578688#32 = ⊥ := by simp [Ideal.ofBits, Ideal.ieee]
theorem word_top : Ideal.ofBits .f32 2139095040#32 = ⊤ := by simp [Ideal.ofBits, Ideal.ieee]

theorem soft : b110 j s (ix1 i) = byLse (b50 j s (ix1 i)) (b57 j s (ix1 i)) (b82 j s (ix1 i)) := by
  have hv : ∀ k : Fin 3, b89 j s (ix2 k i)
      = three (b50 j s (ix1 i)) (b57 j s (ix1 i)) (b82 j s (ix1 i)) k * ((-10 : ℝ) : EReal) := by
    intro k
    pointwise [b89, b88, b87, b86, b85, b84, b83]
    rw [neg_ten]
    rfl
  have hs : b99 j s (ix1 i) = shift (b50 j s (ix1 i) * ((-10 : ℝ) : EReal)) (b57 j s (ix1 i) * ((-10 : ℝ) : EReal))
      (b82 j s (ix1 i) * ((-10 : ℝ) : EReal)) := by
    pointwise [b99, b98, b97, b96, b95, b94, b93, b92, b91, b90]
    rw [word_bot, word_top, fold_three, hv, hv, hv]
    rfl
  pointwise [b110, b109, b108, b107, b106, b105, b104, b103, b102, b101, b100]
  rw [neg_ten, Fin.sum_univ_three, hs, hv, hv, hv]
  rfl

include hP hQ in
/-- The new diagonal at row `i`. -/
theorem new_diagonal (D : ℕ → ℕ → EReal) (hD : ∀ a b : Fin 4096, s.main_v9_2 (ix2 a b) = D a b) (hj : j < 8191) :
    b118 j s (ix2 1 i) = next byLse D j P Q i := by
  have h : b118 j s (ix2 1 i) = Scalar.select (b14 j s (ix1 i)) (b40 j s (ix1 i) + b110 j s (ix1 i)) big := by
    pointwise [b118, b117, b116, b115, b114, b113, b112, b111, b5, b4]
    rfl
  rw [h, inside j s i hj, select_ofBool, next]
  by_cases hc : (i : ℕ) ≤ j ∧ j < (i : ℕ) + 4096
  · rw [if_pos hc, if_pos hc, costs j s i D hD hj hc, soft, above j s i Q hQ, left j s i Q hQ hj, corner j s i P hP hj]
  · rw [if_neg hc, if_neg hc]

/-- The diagonal that is kept at row `i`. -/
theorem kept_diagonal : b118 j s (ix2 0 i) = s.main_v9_4 (ix2 1 i) := by
  pointwise [b118, b117, b116, b115, b114, b113, b112, b111, b5, b4]

end Soft

end Cert.Proof.RefStep

end
-- ==== Proof.RefWave.lean ====
/- What the reference's loop leaves: after `t` trips its state holds the last two diagonals before step `t`. -/
module

public import proofs.«01_k».proof.Proof.RefStep

@[expose] public section

noncomputable section

namespace Cert.Proof.RefWave

open Cert.ReferenceIdeal Cert.ReferenceIdeal.Gen Cert.ReferenceIdeal.Step
open Idealize.ShloMosaic
open Cert.Proof.Model Cert.Proof.SoftMin

variable (x y : S4096.Idx → EReal)

/-- The state before trip `t`. -/
def states : ℕ → State Ideal
  | 0 => init x y
  | t + 1 => step t (states t)

/-- The cost of pairing the entries of the two series. -/
abbrev costs : ℕ → ℕ → EReal := cost (fun i => x (ix1 i)) (fun i => y (ix1 i))

/-- The table of costs, which no trip changes. -/
theorem table (t : ℕ) (a b : Fin 4096) : (states x y t).main_v9_2 (ix2 a b) = costs x y a b := by
  induction t with
  | zero =>
    rw [costs, cost, at4096_of_lt _ a.isLt, at4096_of_lt _ b.isLt]
    show (init (F := Ideal) x y).main_v9_2 (ix2 a b) = _
    pointwise [init, A_main_v0, A_main_v1, A_main_v2, A_main_v3, A_main_v4, A_main_v5]
  | succ t ih => exact ih

/-- The two rows of the state are the two diagonals. -/
theorem rows (t : ℕ) (ht : t ≤ 8191) (i : Fin 4096) :
    (states x y t).main_v9_4 (ix2 0 i) = (diagonals byLse (costs x y) t).1 i ∧
      (states x y t).main_v9_4 (ix2 1 i) = (diagonals byLse (costs x y) t).2 i := by
  induction t generalizing i with
  | zero =>
    have h : ∀ k, (init (F := Ideal) x y).main_v9_4 (ix2 k i) = big := by
      intro k
      pointwise [init, K_main_v7, K_main_cst]
      rfl
    exact ⟨h 0, h 1⟩
  | succ t ih =>
    refine ⟨?_, ?_⟩
    · exact (RefStep.kept_diagonal t (states x y t) i).trans (ih (by omega) i).2
    · exact RefStep.new_diagonal t (states x y t) i _ _ (fun a => (ih (by omega) a).1) (fun a => (ih (by omega) a).2)
        _ (table x y t) (by omega)

/-- The reference's result: the absolute value of the last entry of the last diagonal. -/
theorem reference_value : R_main_v16 (states x y 8191) = fun _ =>
    max ((diagonals byLse (costs x y) 8191).2 4095) (-(diagonals byLse (costs x y) 8191).2 4095) := by
  funext k
  have hk : k = ix0 := Subsingleton.elim _ _
  have h : R_main_v16 (states x y 8191) ix0 = (FloatOps.absf (F := Ideal) (φ := .f32) ((states x y 8191).main_v9_4 (ix2 1 4095)) : EReal) := by
    pointwise [R_main_v16]
  rw [hk, h, (rows x y 8191 le_rfl 4095).2]
  rfl

end Cert.Proof.RefWave

end
-- ==== Proof.Equation.lean ====
/- The equation: on the same two series the kernel's result and the reference's are one number. -/
module

public import proofs.«01_k».proof.Proof.KernelLaunch
public import proofs.«01_k».proof.Proof.RefWave
public import proofs.«01_k».proof.Proof.Gen.ReferenceIdeal.StepRun

@[expose] public section

noncomputable section

namespace Cert.Proof.Equation

open Idealize.ShloMosaic Idealize.ShloMosaic.TcCoe Idealize.SL.Sem
open Cert.Proof.Model Cert.Proof.SoftMin

/-- What both programs return on two series: the absolute value of the last entry of the last diagonal. -/
def answer (x y : Fin 4096 → EReal) : EReal :=
  max ((diagonals byLse (cost x y) 8191).2 4095) (-(diagonals byLse (cost x y) 8191).2 4095)

/-- The kernel's result. -/
theorem kernel_answer (m : (ℓ : Loc KernelIdeal.nD KernelIdeal.τ KernelIdeal.sig) → Buf (Elt Ideal) ℓ)
    (c : Dev KernelIdeal.nD) : IdealBody.finalV m c KernelIdeal.main_v5
      = fun _ => answer (KernelLaunch.seriesX m c) (KernelLaunch.seriesY m c) := by
  rw [KernelLaunch.kernel_value, diagonals_byMin]
  rfl

/-- The reference's result. -/
theorem reference_answer (x y : (⟨1, ![4096]⟩ : Shape).Idx → EReal) : ReferenceIdeal.Step.R_main_v16 (RefWave.states x y 8191)
    = fun _ => answer (fun i => x (ix1 i)) (fun i => y (ix1 i)) := by
  rw [RefWave.reference_value]
  rfl

/-- The kernel's run: it ends with the answer, its arguments as they were. -/
theorem kernel_run (m : (ℓ : Loc KernelIdeal.nD KernelIdeal.τ KernelIdeal.sig) → Buf (Elt Ideal) ℓ)
    (g : Dev KernelIdeal.nD → PrngReg) :
    θ_run (KernelIdeal.defs (F := Ideal)) (onTc (τ := KernelIdeal.τ) (KernelIdeal.main (F := Ideal))) ⟨m, fun _ => 0, g⟩
      (fun r => ∀ c : Dev KernelIdeal.nD,
        r.2.mem ((c.tc : Thread KernelIdeal.nD KernelIdeal.τ).loc KernelIdeal.main_v5)
            = (fun _ => answer (KernelLaunch.seriesX m c) (KernelLaunch.seriesY m c))
        ∧ r.2.mem ((c.tc : Thread KernelIdeal.nD KernelIdeal.τ).loc KernelIdeal.main_arg0)
            = m ((c.tc : Thread KernelIdeal.nD KernelIdeal.τ).loc KernelIdeal.main_arg0)
        ∧ r.2.mem ((c.tc : Thread KernelIdeal.nD KernelIdeal.τ).loc KernelIdeal.main_arg1)
            = m ((c.tc : Thread KernelIdeal.nD KernelIdeal.τ).loc KernelIdeal.main_arg1)) :=
  (θ_run KernelIdeal.defs _ _).mono
    (fun _ h c => ⟨((h.1 c).2 KernelIdeal.main_v5 (Pipeline.mem_restRefs_of KernelIdeal.main_v5 (by decide) (by decide))).trans
      (kernel_answer m c), h.2.1 c⟩)
    (θ_run_and (IdealBody.run_values (F := Ideal) m g) (IdealBody.frame_quiescent (F := Ideal) m g))

/-- The reference's run: it ends with the answer, its arguments as they were. -/
theorem reference_run (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩
      (fun r => ∀ c : Dev ReferenceIdeal.nD,
        r.2.mem ((c.tc : Thread ReferenceIdeal.nD ReferenceIdeal.τ).loc ReferenceIdeal.main_v16)
            = (fun _ => answer (fun i => m ((c.tc : Thread ReferenceIdeal.nD ReferenceIdeal.τ).loc ReferenceIdeal.main_arg0) (ix1 i))
                (fun i => m ((c.tc : Thread ReferenceIdeal.nD ReferenceIdeal.τ).loc ReferenceIdeal.main_arg1) (ix1 i)))
        ∧ r.2.mem ((c.tc : Thread ReferenceIdeal.nD ReferenceIdeal.τ).loc ReferenceIdeal.main_arg0)
            = m ((c.tc : Thread ReferenceIdeal.nD ReferenceIdeal.τ).loc ReferenceIdeal.main_arg0)
        ∧ r.2.mem ((c.tc : Thread ReferenceIdeal.nD ReferenceIdeal.τ).loc ReferenceIdeal.main_arg1)
            = m ((c.tc : Thread ReferenceIdeal.nD ReferenceIdeal.τ).loc ReferenceIdeal.main_arg1)) :=
  (θ_run ReferenceIdeal.defs _ _).mono (fun _ h c => ⟨(h c).1.trans (reference_answer _ _), (h c).2⟩)
    (ReferenceIdeal.StepRun.run_iter m g
      (fun c => RefWave.states (m ((c.tc : Thread ReferenceIdeal.nD ReferenceIdeal.τ).loc ReferenceIdeal.main_arg0))
        (m ((c.tc : Thread ReferenceIdeal.nD ReferenceIdeal.τ).loc ReferenceIdeal.main_arg1)))
      (fun _ => rfl) (fun _ _ => rfl))

end Cert.Proof.Equation

end
-- ==== Proof.lean ====
/- The certificate: the three frames, the three named constants, and the equation of the kernel's result and the
   reference's over the extended reals. -/
module

public import proofs.«01_k».proof.Defs
public import proofs.«01_k».proof.Proof.BitsBody
public import proofs.«01_k».proof.Proof.Equation
public import Idealize.ShloMosaic.Lib.Quiescent

@[expose] public section

noncomputable section

namespace Cert.Proof

open Idealize.ShloMosaic Idealize.SL.Sem

/-- The reference runs, its arguments end as they began, and it has no semaphore. -/
theorem reference_frame : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Equation.reference_run m g)

/-- Each of the three named constants is read as the number that its table gives it. -/
theorem constants : Cert.preserves_Kernel_KernelIdeal :=
  ⟨IdealRules.named_const.statement Cert.KernelIdeal.κ "inv_g2" .f32 0x4166D4CA#32 _ rfl,
    IdealRules.named_const.statement Cert.KernelIdeal.κ "g_ln2" .f32 0x3D8DF4E0#32 _ rfl,
    IdealRules.named_const.statement Cert.KernelIdeal.κ "inv_ln2" .f32 0x3FB8AA3B#32 _ rfl⟩

/-- On equal arguments the two programs return one number. -/
theorem equal : Cert.algebraic_KernelIdeal_ReferenceIdeal (hKernelIdeal := Cert.KernelIdeal.Gen.facts)
    (hReferenceIdeal := Cert.ReferenceIdeal.Gen.facts) := by
  intro m g m' g' _ hargs
  refine ⟨fun c _ => Equation.answer (KernelLaunch.seriesX m c) (KernelLaunch.seriesY m c), Equation.kernel_run m g,
    (θ_run Cert.ReferenceIdeal.defs _ _).mono (fun r h c => ⟨(h c).1.trans ?_, (h c).2⟩) (Equation.reference_run m' g')⟩
  rw [(hargs c).1, (hargs c).2]
  rfl

theorem claim : Cert.Claim :=
  ⟨Cert.Kernel.Gen.facts, Cert.KernelIdeal.Gen.facts, Cert.ReferenceIdeal.Gen.facts,
    fun m g _ => BitsBody.frame_quiescent (F := Bits) m g, fun m g _ => IdealBody.frame_quiescent (F := Ideal) m g,
    reference_frame, constants, equal⟩

end Cert.Proof

end
